-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x512 : Shape := ⟨2, ![100000, 512]⟩
abbrev S100000 : Shape := ⟨1, ![100000]⟩
abbrev S256x512 : Shape := ⟨2, ![256, 512]⟩
abbrev S256 : Shape := ⟨1, ![256]⟩
abbrev S128x256 : Shape := ⟨2, ![128, 256]⟩
abbrev S128 : Shape := ⟨1, ![128]⟩
abbrev S128x128 : Shape := ⟨2, ![128, 128]⟩
abbrev S_ : Shape := ⟨0, ![]⟩
abbrev S4096x512 : Shape := ⟨2, ![4096, 512]⟩
abbrev S100000x1 : Shape := ⟨2, ![100000, 1]⟩
abbrev S4096 : Shape := ⟨1, ![4096]⟩
abbrev S4096x1 : Shape := ⟨2, ![4096, 1]⟩
abbrev S4096x16 : Shape := ⟨2, ![4096, 16]⟩
abbrev S512x256 : Shape := ⟨2, ![512, 256]⟩
abbrev S1x256 : Shape := ⟨2, ![1, 256]⟩
abbrev S256x128 : Shape := ⟨2, ![256, 128]⟩
abbrev S1x128 : Shape := ⟨2, ![1, 128]⟩
abbrev S4096x128 : Shape := ⟨2, ![4096, 128]⟩
abbrev S512x512 : Shape := ⟨2, ![512, 512]⟩
abbrev S512x16 : Shape := ⟨2, ![512, 16]⟩
abbrev S512x128 : Shape := ⟨2, ![512, 128]⟩
abbrev S512x1 : Shape := ⟨2, ![512, 1]⟩

abbrev nBuf : Space → Nat
  | .hbm => 27
  | .vmem => 12
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S256x512, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S4096x512, .f32⟩
  | .hbm, ⟨10, _⟩ => ⟨S100000x1, .i32⟩
  | .hbm, ⟨11, _⟩ => ⟨S4096x512, .f32⟩
  | .hbm, ⟨12, _⟩ => ⟨S_, .f32⟩
  | .hbm, ⟨13, _⟩ => ⟨S100000, .f32⟩
  | .hbm, ⟨14, _⟩ => ⟨S_, .f32⟩
  | .hbm, ⟨15, _⟩ => ⟨S4096, .f32⟩
  | .hbm, ⟨16, _⟩ => ⟨S100000x1, .i32⟩
  | .hbm, ⟨17, _⟩ => ⟨S4096, .f32⟩
  | .hbm, ⟨18, _⟩ => ⟨S4096x1, .f32⟩
  | .hbm, ⟨19, _⟩ => ⟨S4096x16, .f32⟩
  | .hbm, ⟨20, _⟩ => ⟨S512x256, .f32⟩
  | .hbm, ⟨21, _⟩ => ⟨S1x256, .f32⟩
  | .hbm, ⟨22, _⟩ => ⟨S256x128, .f32⟩
  | .hbm, ⟨23, _⟩ => ⟨S1x128, .f32⟩
  | .hbm, ⟨24, _⟩ => ⟨S128x128, .f32⟩
  | .hbm, ⟨25, _⟩ => ⟨S1x128, .f32⟩
  | .hbm, ⟨26, _⟩ => ⟨S4096x128, .f32⟩
  | .local _ .vmem, ⟨0, _⟩ => ⟨S512x512, .f32⟩
  | .local _ .vmem, ⟨1, _⟩ => ⟨S512x512, .f32⟩
  | .local _ .vmem, ⟨2, _⟩ => ⟨S512x16, .f32⟩
  | .local _ .vmem, ⟨3, _⟩ => ⟨S512x16, .f32⟩
  | .local _ .vmem, ⟨4, _⟩ => ⟨S512x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S100000x512 : Shape := ⟨2, ![100000, 512]⟩
abbrev S100000 : Shape := ⟨1, ![100000]⟩
abbrev S256x512 : Shape := ⟨2, ![256, 512]⟩
abbrev S256 : Shape := ⟨1, ![256]⟩
abbrev S128x256 : Shape := ⟨2, ![128, 256]⟩
abbrev S128 : Shape := ⟨1, ![128]⟩
abbrev S128x128 : Shape := ⟨2, ![128, 128]⟩
abbrev S_ : Shape := ⟨0, ![]⟩
abbrev S4096x512 : Shape := ⟨2, ![4096, 512]⟩
abbrev S100000x1 : Shape := ⟨2, ![100000, 1]⟩
abbrev S4096 : Shape := ⟨1, ![4096]⟩
abbrev S4096x1 : Shape := ⟨2, ![4096, 1]⟩
abbrev S512x256 : Shape := ⟨2, ![512, 256]⟩
abbrev S4096x256 : Shape := ⟨2, ![4096, 256]⟩
abbrev S1x256 : Shape := ⟨2, ![1, 256]⟩
abbrev S256x128 : Shape := ⟨2, ![256, 128]⟩
abbrev S4096x128 : Shape := ⟨2, ![4096, 128]⟩
abbrev S1x128 : Shape := ⟨2, ![1, 128]⟩

abbrev nBuf : Space → Nat
  | .hbm => 45
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S256x512, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S4096x512, .f32⟩
  | .hbm, ⟨10, _⟩ => ⟨S100000x1, .i32⟩
  | .hbm, ⟨11, _⟩ => ⟨S4096x512, .f32⟩
  | .hbm, ⟨12, _⟩ => ⟨S_, .f32⟩
  | .hbm, ⟨13, _⟩ => ⟨S100000, .f32⟩
  | .hbm, ⟨14, _⟩ => ⟨S_, .f32⟩
  | .hbm, ⟨15, _⟩ => ⟨S4096, .f32⟩
  | .hbm, ⟨16, _⟩ => ⟨S100000x1, .i32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S512x256, .f32⟩
  | .hbm, ⟨25, _⟩ => ⟨S4096x256, .f32⟩
  | .hbm, ⟨26, _⟩ => ⟨S1x256, .f32⟩
  | .hbm, ⟨27, _⟩ => ⟨S4096x256, .f32⟩
  | .hbm, ⟨28, _⟩ => ⟨S4096x256, .f32⟩
  | .hbm, ⟨29, _⟩ => ⟨S_, .f32⟩
  | .hbm, ⟨30, _⟩ => ⟨S4096x256, .f32⟩
  | .hbm, ⟨31, _⟩ => ⟨S4096x256, .f32⟩
  | .hbm, ⟨32, _⟩ => ⟨S256x128, .f32⟩
  | .hbm, ⟨33, _⟩ => ⟨S4096x128, .f32⟩
  | .hbm, ⟨34, _⟩ => ⟨S1x128, .f32⟩
  | .hbm, ⟨35, _⟩ => ⟨S4096x128, .f32⟩
  | .hbm, ⟨36, _⟩ => ⟨S4096x128, .f32⟩
  | .hbm, ⟨37, _⟩ => ⟨S_, .f32⟩
  | .hbm, ⟨38, _⟩ => ⟨S4096x128, .f32⟩
  | .hbm, ⟨39, _⟩ => ⟨S4096x128, .f32⟩
  | .hbm, ⟨40, _⟩ => ⟨S128x128, .f32⟩
  | .hbm, ⟨41, _⟩ => ⟨S4096x128, .f32⟩
  | .hbm, ⟨42, _⟩ => ⟨S1x128, .f32⟩
  | .hbm, ⟨43, _⟩ => ⟨S4096x128, .f32⟩
  | .hbm, ⟨44, _⟩ => ⟨S4096x128, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call1_cst : Ref sig .tc := ⟨.hbm, 37, rfl⟩
abbrev main_call1_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.Segment.lean ====
/- The two segment sums of the kernel's host part, read at one segment, over the extended reals: the row sums
   `sums[g, d]` (the rows of `x` whose index word is `g`, added) and the counts `counts[g]` (a one for each such row).
   What the kernel's guard `counts > 0.5` needs of them: a segment whose count isn't above one half has no row at all,
   so its row sum is zero. -/
module

public import proofs.«01_k».proof.Proof.Gen.KernelIdeal
public import Idealize.ShloMosaic.Lib.Routing.OpsPair
public import Idealize.ShloMosaic.Lib.IdealHost

@[expose] public section

noncomputable section

namespace Cert.Segment

open Idealize.ShloMosaic Idealize.ShloMosaic.ValueIdx Cert.KernelIdeal
open scoped BigOperators

/-- The row sums as the host computes them from the rows `x` and the index words `idx`, over zeros. -/
abbrev rowSums (x : FVec Ideal S100000x512 .f32) (idx : IVec S100000x1 32) : FVec Ideal S4096x512 .f32 :=
  Host.scatterAdd scatter_S4096x512_S100000x1_S100000x512_1_0_0_1
    (broadcastInDim S4096x512 ![] Gen.bcast_S_S4096x512 (constant S_ .f32 0x00000000#32)) idx x

/-- The counts as the host computes them from the index words `idx`: ones added over zeros. -/
abbrev counts (idx : IVec S100000x1 32) : FVec Ideal S4096 .f32 :=
  Host.scatterAdd scatter_S4096_S100000x1_S100000_n_0_0_1
    (broadcastInDim S4096 ![] Gen.bcast_S_S4096 (constant S_ .f32 0x00000000#32)) idx
    (broadcastInDim S100000 ![] Gen.bcast_S_S100000 (constant S_ .f32 0x3F800000#32))

/-- An entry of row `n` that is added into row `g` of the row sums: row `n`'s one is added into count `g`. -/
theorem count_lands (idx : IVec S100000x1 32) (j : S100000x512.Idx) (g : Fin 4096) (d : Fin 512)
    (h : scatter_S4096x512_S100000x1_S100000x512_1_0_0_1.resultIdx? j idx = some (ix2 g d)) :
    scatter_S4096_S100000x1_S100000_n_0_0_1.resultIdx? (ix1 (j 0 : Fin 100000)) idx = some (ix1 g) := by
  rw [Routing.resultIdx?_ix2] at h
  rw [Routing.resultIdx?_ix1]
  have hs : scatter_S4096_S100000x1_S100000_n_0_0_1.start (ix1 (j 0 : Fin 100000)) idx 0
      = scatter_S4096x512_S100000x1_S100000x512_1_0_0_1.start j idx 0 := by
    refine congrArg BitVec.toInt (congrArg idx (funext fun b => ?_))
    match b with
    | ⟨0, _⟩ => rfl
    | ⟨1, _⟩ => rfl
  rw [hs]
  exact h.1

/-- The f32 pattern of one half lies below one. -/
theorem half_lt_one : Ideal.ofBits .f32 0x3F000000#32 < 1 := by
  have h : Ideal.ofBits .f32 0x3F000000#32 = (((1 : ℝ) / 2 : ℝ) : EReal) := by
    simp [Ideal.ofBits, Ideal.ieee, -EReal.coe_mul]; norm_num
  rw [h, ← EReal.coe_one, EReal.coe_lt_coe_iff]
  norm_num

/-- A count is the sum of a one for each row whose index word is the segment. -/
theorem counts_apply (idx : IVec S100000x1 32) (g : Fin 4096) :
    counts idx (ix1 g)
      = ∑ _n ∈ Finset.univ.filter (fun n => scatter_S4096_S100000x1_S100000_n_0_0_1.resultIdx? n idx = some (ix1 g)), (1 : EReal) := by
  show Ideal.ofBits .f32 0x00000000#32 + ∑ _n ∈ _, Ideal.ofBits .f32 0x3F800000#32 = _
  rw [Ideal.ofBits_zero_f32, zero_add, Ideal.ofBits_one_f32]

/-- A segment into which some row falls has a count above one half. -/
theorem half_lt_counts (idx : IVec S100000x1 32) (g : Fin 4096) (n : S100000.Idx)
    (h : scatter_S4096_S100000x1_S100000_n_0_0_1.resultIdx? n idx = some (ix1 g)) :
    Ideal.ofBits .f32 0x3F000000#32 < counts idx (ix1 g) := by
  rw [counts_apply]
  refine lt_of_lt_of_le half_lt_one ?_
  exact Finset.single_le_sum (f := fun _ : S100000.Idx => (1 : EReal)) (fun _ _ => zero_le_one)
    (Finset.mem_filter.2 ⟨Finset.mem_univ n, h⟩)

/-- A segment whose count isn't above one half has a zero row sum, in every column. -/
theorem rowSums_eq_zero (x : FVec Ideal S100000x512 .f32) (idx : IVec S100000x1 32) (g : Fin 4096) (d : Fin 512)
    (h : ¬ Ideal.ofBits .f32 0x3F000000#32 < counts idx (ix1 g)) : rowSums x idx (ix2 g d) = 0 := by
  show Ideal.ofBits .f32 0x00000000#32 + ∑ j ∈ Finset.univ.filter
    (fun j => scatter_S4096x512_S100000x1_S100000x512_1_0_0_1.resultIdx? j idx = some (ix2 g d)), x j = 0
  rw [Ideal.ofBits_zero_f32, zero_add]
  refine Finset.sum_eq_zero fun j hj => (h ?_).elim
  exact half_lt_counts idx g _ (count_lands idx j g d (Finset.mem_filter.1 hj).2)

/-- The kernel's guarded mean of a segment, zero where the count isn't above one half, is the plain quotient
    of the row sum by the count raised to at least one. -/
theorem guarded_mean (x : FVec Ideal S100000x512 .f32) (idx : IVec S100000x1 32) (g : Fin 4096) (d : Fin 512)
    {s n : EReal} (hs : s = rowSums x idx (ix2 g d)) (hn : n = counts idx (ix1 g)) :
    (if Ideal.ofBits .f32 0x3F000000#32 < n then Ideal.div s (max n 1) else 0)
      = Ideal.div (rowSums x idx (ix2 g d)) (max (counts idx (ix1 g)) 1) := by
  rw [hs, hn]
  by_cases h : Ideal.ofBits .f32 0x3F000000#32 < counts idx (ix1 g)
  · exact if_pos h
  · rw [rowSums_eq_zero x idx g d h, Ideal.zero_div (lt_of_lt_of_le zero_lt_one (le_max_right _ _)).ne']
    exact ite_self _

end Cert.Segment

end
-- ==== Proof.Network.lean ====
/- What the reference computes, over the extended reals: the segment means (row sums by counts) taken through
   a three-layer perceptron, as one function of the arguments. -/
module

public import proofs.«01_k».proof.Proof.Segment
public import proofs.«01_k».proof.Proof.Gen.ReferenceIdeal.Run

@[expose] public section

set_option maxRecDepth 16384

noncomputable section

namespace Cert.Network

open Idealize.ShloMosaic Idealize.ShloMosaic.TcCoe Cert.KernelIdeal Cert.KernelIdeal.Gen Cert.Segment

/-- The perceptron the reference applies to the row sums `s` and the counts `n` of all 4096 segments: the mean
    `s / max(n, 1)`, then two layers with a maximum against zero and a last one without. -/
abbrev network (s : FVec Ideal S4096x512 .f32) (n : FVec Ideal S4096 .f32)
    (w1 : FVec Ideal S256x512 .f32) (b1 : FVec Ideal S256 .f32) (w2 : FVec Ideal S128x256 .f32) (b2 : FVec Ideal S128 .f32)
    (w3 : FVec Ideal S128x128 .f32) (b3 : FVec Ideal S128 .f32) : FVec Ideal S4096x128 .f32 :=
  addf (Host.dotGeneral Cert.ReferenceIdeal.dot_S4096x128_S128x128_S4096x128_1_0_0_1_n_n none
    (maximumf (addf (Host.dotGeneral Cert.ReferenceIdeal.dot_S4096x256_S256x128_S4096x128_1_0_0_1_n_n none
      (maximumf (addf (Host.dotGeneral Cert.ReferenceIdeal.dot_S4096x512_S512x256_S4096x256_1_0_0_1_n_n none
        (Host.divf s
          (broadcastInDim S4096x512 ![0, 1] Cert.ReferenceIdeal.Gen.bcast_S4096x1_S4096x512_0_1
            (broadcastInDim S4096x1 ![0] Cert.ReferenceIdeal.Gen.bcast_S4096_S4096x1_0
              (maximumf n (broadcastInDim S4096 ![] Cert.ReferenceIdeal.Gen.bcast_S_S4096 (constant S_ .f32 0x3F800000#32))))))
        (transpose S512x256 [1, 0] w1 Cert.ReferenceIdeal.Gen.transposes_S256x512_S512x256_1_0))
        (broadcastInDim Cert.ReferenceIdeal.S4096x256 ![0, 1] Cert.ReferenceIdeal.Gen.bcast_S1x256_S4096x256_0_1
          (broadcastInDim S1x256 ![1] Cert.ReferenceIdeal.Gen.bcast_S256_S1x256_1 b1)))
        (broadcastInDim Cert.ReferenceIdeal.S4096x256 ![] Cert.ReferenceIdeal.Gen.bcast_S_S4096x256 (constant S_ .f32 0x00000000#32)))
      (transpose S256x128 [1, 0] w2 Cert.ReferenceIdeal.Gen.transposes_S128x256_S256x128_1_0))
      (broadcastInDim S4096x128 ![0, 1] Cert.ReferenceIdeal.Gen.bcast_S1x128_S4096x128_0_1
        (broadcastInDim S1x128 ![1] Cert.ReferenceIdeal.Gen.bcast_S128_S1x128_1 b2)))
      (broadcastInDim S4096x128 ![] Cert.ReferenceIdeal.Gen.bcast_S_S4096x128 (constant S_ .f32 0x00000000#32)))
    (transpose S128x128 [1, 0] w3 Cert.ReferenceIdeal.Gen.transposes_S128x128_S128x128_1_0))
    (broadcastInDim S4096x128 ![0, 1] Cert.ReferenceIdeal.Gen.bcast_S1x128_S4096x128_0_1
      (broadcastInDim S1x128 ![1] Cert.ReferenceIdeal.Gen.bcast_S128_S1x128_1 b3))

variable (m : (b : Loc nD τ sig) → Buf (Elt Ideal) b)

/-- The index words: the argument `batch` as a column. -/
abbrev words (c : Dev nD) : IVec S100000x1 32 :=
  broadcastInDim S100000x1 ![0] bcast_S100000_S100000x1_0 (m (c, main_arg1) : IVec S100000 32)

/-- What the result is claimed to be, of the arguments at the start of the run. -/
abbrev result (c : Dev nD) : FVec Ideal S4096x128 .f32 :=
  network (rowSums (m (c, main_arg0)) (words m c)) (counts (words m c))
    (m (c, main_arg2)) (m (c, main_arg3)) (m (c, main_arg4)) (m (c, main_arg5)) (m (c, main_arg6)) (m (c, main_arg7))

end Cert.Network

end
-- ==== Proof.Block.lean ====
/- What one grid point of the kernel computes, over the extended reals: it reads 512 rows of the row sums and of the
   counts, and stores the same rows of the array the reference computes. -/
module

public import proofs.«01_k».proof.Proof.Network
public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.Network

open Idealize.ShloMosaic Idealize.ShloMosaic.TcCoe Idealize.SL.Sem Cert.KernelIdeal Cert.KernelIdeal.Gen Cert.Segment

/-- Every window's block index at a grid point: the row sums, the counts and the output move with the point, the
    weights and biases are whole arrays. -/
theorem idx : ∀ t : Fin cfg0.N,
    win0_0.index t = ![(grid0.coords t 0).val, 0] ∧ win0_1.index t = ![(grid0.coords t 0).val, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![(grid0.coords t 0).val, 0] :=
  (by decide +kernel : ∀ t : Fin grid0.N, _)

variable (m : (b : Loc nD τ sig) → Buf (Elt Ideal) b)

/-- Where the region starts, the first window's array holds the row sums. -/
theorem V_sums (c : Dev nD) : (V m c main_v2 : FVec Ideal S4096x512 .f32) = rowSums (m (c, main_arg0)) (words m c) := by
  entry_read
  rfl

/-- Where the region starts, the second window's array holds the counts, the same in each of 16 columns. -/
theorem V_counts (c : Dev nD) : (V m c main_v8 : FVec Ideal S4096x16 .f32)
    = broadcastInDim S4096x16 ![0, 1] bcast_S4096x1_S4096x16_0_1
        (broadcastInDim S4096x1 ![0] bcast_S4096_S4096x1_0 (counts (words m c))) := by
  entry_read
  rfl

/-- The row of the whole arrays that the row of block index `y` at point `t` is. -/
abbrev row (t : Fin cfg0.N) (y : S512x128.Idx) : Fin 4096 := ((cfg0.win 8).blk t).view.emb y 0

/-- Block `t` of the row sums' window, read at a row of the block: the whole array at that row. -/
theorem block_sums (t : Fin cfg0.N) (y : S512x128.Idx) (d : Fin 512) (A : FVec Ideal S4096x512 .f32) :
    (((cfg0.win 0).blk t).view.read (Elt Ideal) A : FVec Ideal S512x512 .f32) (ix2 (y 0) d) = A (ix2 (row t y) d) := by
  unfold row
  blk_ext [idx t]

/-- Block `t` of the counts' window, read at a row of the block in column 0: the whole array at that row. -/
theorem block_counts (t : Fin cfg0.N) (y : S512x128.Idx) (A : FVec Ideal S4096x16 .f32) :
    (((cfg0.win 1).blk t).view.read (Elt Ideal) A : FVec Ideal S512x16 .f32) (ix2 (y 0) 0) = A (ix2 (row t y) 0) := by
  unfold row
  blk_ext [idx t]

/-- Column 0 of the counts laid out over 16 columns: the counts. -/
theorem counts_column (N : FVec Ideal S4096 .f32) (r : Fin 4096) :
    broadcastInDim S4096x16 ![0, 1] bcast_S4096x1_S4096x16_0_1
        (broadcastInDim S4096x1 ![0] bcast_S4096_S4096x1_0 N) (ix2 r 0) = N (ix1 r) := by
  pointwise

/-- The row sums a grid point reads. -/
theorem read_sums (c : Dev nD) (t : Fin cfg0.N) (y : S512x128.Idx) (d : Fin 512) :
    (iblk m c 0 t : FVec Ideal S512x512 .f32) (ix2 (y 0) d) = rowSums (m (c, main_arg0)) (words m c) (ix2 (row t y) d) :=
  (block_sums t y d (V m c main_v2)).trans (congrFun (V_sums m c) _)

/-- The counts a grid point reads. -/
theorem read_counts (c : Dev nD) (t : Fin cfg0.N) (y : S512x128.Idx) :
    (iblk m c 1 t : FVec Ideal S512x16 .f32) (ix2 (y 0) 0) = counts (words m c) (ix1 (row t y)) :=
  (block_counts t y (V m c main_v8)).trans ((congrFun (V_counts m c) _).trans (counts_column _ _))

/-- The guarded mean a grid point computes is the plain mean of the whole arrays at that row. -/
theorem read_mean (c : Dev nD) (t : Fin cfg0.N) (y : S512x128.Idx) (d : Fin 512) :
    (if Ideal.ofBits .f32 0x3F000000#32 < (iblk m c 1 t : FVec Ideal S512x16 .f32) (ix2 (y 0) 0) then
      Ideal.div ((iblk m c 0 t : FVec Ideal S512x512 .f32) (ix2 (y 0) d)) (max ((iblk m c 1 t : FVec Ideal S512x16 .f32) (ix2 (y 0) 0)) 1)
     else 0)
    = Ideal.div (rowSums (m (c, main_arg0)) (words m c) (ix2 (row t y) d)) (max (counts (words m c) (ix1 (row t y))) 1) :=
  guarded_mean (m (c, main_arg0)) (words m c) (row t y) d (read_sums m c t y d) (read_counts m c t y)

/-- What a grid point stores is its block of the reference's array. -/
theorem point (c : Dev nD) (t : Fin cfg0.N) (y : S512x128.Idx) :
    k0_pay1 (k0_pay2 (View.ld (iblk m c 1 t) r0_0) (iblk m c 0 t) (iblk m c 2 t)
      (iblk m c 3 t) (iblk m c 4 t) (iblk m c 5 t) (iblk m c 6 t))
      (iblk m c 7 t) y
    = result m c (((cfg0.win 8).blk t).view.emb y) := by
  unfold result
  have hm := fun d => read_mean m c t y d
  generalize rowSums (m (c, main_arg0)) (words m c) = S at *
  generalize counts (words m c) = N at *
  pointwise [k0_pay1, k0_pay2, network]
  simp only [hm]
  blk_point [iblk, V, idx t]

end Cert.Network

end
-- ==== Proof.Value.lean ====
/- What the kernel's output array holds after the run, over the extended reals: the array the reference computes. -/
module

public import proofs.«01_k».proof.Proof.Block

@[expose] public section

set_option maxRecDepth 16384

noncomputable section

namespace Cert.Network

open Idealize.ShloMosaic Idealize.ShloMosaic.TcCoe Idealize.SL.Sem Cert.KernelIdeal Cert.KernelIdeal.Gen Cert.Segment

variable (m : (b : Loc nD τ sig) → Buf (Elt Ideal) b)

/-- An array that every block the grid points compute is a block of: the output array ends holding it. -/
theorem final_of_blocks (c : Dev nD) (R : FVec Ideal S4096x128 .f32)
    (h : ∀ (t : Fin cfg0.N) (y : S512x128.Idx),
      k0_pay1 (k0_pay2 (View.ld (iblk m c 1 t) r0_0) (iblk m c 0 t) (iblk m c 2 t)
        (iblk m c 3 t) (iblk m c 4 t) (iblk m c 5 t) (iblk m c 6 t))
        (iblk m c 7 t) y = R (((cfg0.win 8).blk t).view.emb y)) :
    (dats m 0 c).arrAt 8 (cfgs 0).N = R := by
  refine (dats m 0 c).arrAt_eq_of_covers 8 _ (by decide +kernel) fun t _ y => ?_
  blk_simp
  rw [after0_8]
  frame_out
  exact h t y

/-- The output array ends holding the reference's perceptron of the segment means. -/
theorem final (c : Dev nD) : (dats m 0 c).arrAt 8 (cfgs 0).N = result m c :=
  final_of_blocks m c _ (point m c)

end Cert.Network

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Value
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem

/-- The five claims. The reference's side of the last is its run, the argument arrays rewritten by the kernel's. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2, sem_eq_zero_of_no_sems (by decide) r.2⟩)
    (Cert.ReferenceIdeal.Value.run (F := Ideal) m ρ),
  trivial,
  by
    intro m g m' g' _ agree
    refine ⟨fun c => Cert.Network.result m c, ?_, ?_⟩
    · exact (θ_run Cert.KernelIdeal.defs _ _).mono
        (fun r h c => ⟨(h c).1.trans (Cert.Network.final m c), (h c).2⟩) (Cert.KernelIdeal.Value.run_blocks m g)
    · refine (θ_run Cert.ReferenceIdeal.defs _ _).mono
        (fun r h c => ⟨(h c).1.trans ?_, (h c).2⟩) (Cert.ReferenceIdeal.Value.run (F := Ideal) m' g')
      obtain ⟨a0, a1, a2, a3, a4, a5, a6, a7⟩ := agree c
      rw [a0, a1, a2, a3, a4, a5, a6, a7]
      rfl⟩

end Cert.Proof

end
